-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_w1 [hPre_finite_w1 : Cert.Pre_finite_w1.Facts] (m : (ℓ : Loc Cert.KernelIdeal.nD Cert.KernelIdeal.τ Cert.KernelIdeal.sig) → Buf (Elt Ideal) ℓ) : Prop :=
  ∀ c : Dev Cert.KernelIdeal.nD,
    (Cert.Pre_finite_w1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_w1 [hPre_finite_w1 : Cert.Pre_finite_w1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_w1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_w1 [hKernelIdeal : Cert.KernelIdeal.Facts] [hPre_finite_w1 : Cert.Pre_finite_w1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_w1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_w1 [hReferenceIdeal : Cert.ReferenceIdeal.Facts] [hPre_finite_w1 : Cert.Pre_finite_w1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_w1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_sqrt_two" .f32 0x3F3504F3#32 (((Real.sqrt 2)⁻¹ : ℝ) : EReal)

def algebraic_KernelIdeal_ReferenceIdeal_pre_finite_w1 [hKernelIdeal : Cert.KernelIdeal.Facts] [hReferenceIdeal : Cert.ReferenceIdeal.Facts] [hPre_finite_w1 : Cert.Pre_finite_w1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_w1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_w1 : Cert.Pre_finite_w1.Facts),
    quiescent_Kernel (hKernel := hKernel)
    ∧ quiescent_KernelIdeal (hKernelIdeal := hKernelIdeal)
    ∧ quiescent_KernelIdeal_pre_finite_w1 (hKernelIdeal := hKernelIdeal) (hPre_finite_w1 := hPre_finite_w1)
    ∧ quiescent_ReferenceIdeal (hReferenceIdeal := hReferenceIdeal)
    ∧ quiescent_ReferenceIdeal_pre_finite_w1 (hReferenceIdeal := hReferenceIdeal) (hPre_finite_w1 := hPre_finite_w1)
    ∧ preserves_Kernel_KernelIdeal
    ∧ algebraic_KernelIdeal_ReferenceIdeal_pre_finite_w1 (hKernelIdeal := hKernelIdeal) (hReferenceIdeal := hReferenceIdeal) (hPre_finite_w1 := hPre_finite_w1)
-- ==== Pre_finite_w1.lean ====
abbrev S8x256x32x32 : Shape := ⟨4, ![8, 256, 32, 32]⟩
abbrev S8192x260 : Shape := ⟨2, ![8192, 260]⟩
abbrev S260x256 : Shape := ⟨2, ![260, 256]⟩
abbrev S256 : Shape := ⟨1, ![256]⟩
abbrev S256x256 : Shape := ⟨2, ![256, 256]⟩
abbrev S_ : Shape := ⟨0, ![]⟩

class Facts : Prop where
  bcast_S_S260x256 : S_.BroadcastsInDim S260x256 (![] : Fin 0 → Fin S260x256.rank)

variable [Facts]

def fn {F : FTy → Type} [FloatOps F] (main_arg0 : FVec F S8x256x32x32 .f32) (main_arg1 : FVec F S8192x260 .f32) (main_arg2 : FVec F S260x256 .f32) (main_arg3 : FVec F S256 .f32) (main_arg4 : FVec F S256x256 .f32) (main_arg5 : FVec F S256 .f32) : IVec S260x256 1 :=
  let main_v0 : FVec F S260x256 .f32 := Host.absf main_arg2
  let main_cst : FVec F S_ .f32 := constant S_ .f32 0x7F800000#32
  let main_v1 : FVec F S260x256 .f32 := broadcastInDim S260x256 ![] bcast_S_S260x256 main_cst
  let main_v2 : IVec S260x256 1 := cmpf .olt main_v0 main_v1
  main_v2
-- ==== Kernel.lean ====
abbrev S8x256x32x32 : Shape := ⟨4, ![8, 256, 32, 32]⟩
abbrev S8192x260 : Shape := ⟨2, ![8192, 260]⟩
abbrev S260x256 : Shape := ⟨2, ![260, 256]⟩
abbrev S256 : Shape := ⟨1, ![256]⟩
abbrev S256x256 : Shape := ⟨2, ![256, 256]⟩
abbrev S8x32x32x256 : Shape := ⟨4, ![8, 32, 32, 256]⟩
abbrev S8192x256 : Shape := ⟨2, ![8192, 256]⟩
abbrev S8192x384 : Shape := ⟨2, ![8192, 384]⟩
abbrev S1024x260 : Shape := ⟨2, ![1024, 260]⟩
abbrev S1024x256 : Shape := ⟨2, ![1024, 256]⟩
abbrev S1024x384 : Shape := ⟨2, ![1024, 384]⟩
abbrev S1024 : Shape := ⟨1, ![1024]⟩
abbrev S1024x1 : Shape := ⟨2, ![1024, 1]⟩
abbrev S1024x128 : Shape := ⟨2, ![1024, 128]⟩
abbrev S1x256 : Shape := ⟨2, ![1, 256]⟩
abbrev S2048x256 : Shape := ⟨2, ![2048, 256]⟩
abbrev S2048 : Shape := ⟨1, ![2048]⟩
abbrev S2048x1 : Shape := ⟨2, ![2048, 1]⟩
abbrev S2048x2048 : Shape := ⟨2, ![2048, 2048]⟩
abbrev S2048x384 : Shape := ⟨2, ![2048, 384]⟩

abbrev nBuf : Space → Nat
  | .hbm => 16
  | .vmem => 16
  | .smem => 0
  | _ => 0

abbrev bufTy : (tb : Table) → Fin (tcTables nBuf tb) → BufTy
  | .hbm, ⟨0, _⟩ => ⟨S8x256x32x32, .f32⟩
  | .hbm, ⟨1, _⟩ => ⟨S8192x260, .f32⟩
  | .hbm, ⟨2, _⟩ => ⟨S260x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S8x32x32x256, .f32⟩
  | .hbm, ⟨7, _⟩ => ⟨S8192x256, .f32⟩
  | .hbm, ⟨8, _⟩ => ⟨S8192x256, .bf16⟩
  | .hbm, ⟨9, _⟩ => ⟨S8192x384, .bf16⟩
  | .hbm, ⟨10, _⟩ => ⟨S1x256, .f32⟩
  | .hbm, ⟨11, _⟩ => ⟨S256x256, .bf16⟩
  | .hbm, ⟨12, _⟩ => ⟨S1x256, .f32⟩
  | .hbm, ⟨13, _⟩ => ⟨S8192x256, .f32⟩
  | .hbm, ⟨14, _⟩ => ⟨S8x32x32x256, .f32⟩
  | .hbm, ⟨15, _⟩ => ⟨S8x256x32x32, .f32⟩
  | .local _ .vmem, ⟨0, _⟩ => ⟨S1024x260, .f32⟩
  | .local _ .vmem, ⟨1, _⟩ => ⟨S1024x260, .f32⟩
  | .local _ .vmem, ⟨2, _⟩ => ⟨S260x256, .f32⟩
  | .local _ .vmem, ⟨3, _⟩ => ⟨S1024x256, .bf16⟩
  | .local _ .vmem, ⟨4, _⟩ => ⟨S1024x256, .bf16⟩
  | .local _ .vmem, ⟨5, _⟩ => ⟨S1024x384, .bf16⟩
  | .local _ .vmem, ⟨6, _⟩ => ⟨S1024x384, .bf16⟩
  | .local _ .vmem, ⟨7, _⟩ => ⟨S2048x256, .f32⟩
  | .local _ .vmem, ⟨8, _⟩ => ⟨S2048x256, .f32⟩
  | .local _ .vmem, ⟨9, _⟩ => ⟨S8192x256, .bf16⟩
  | .local _ .vmem, ⟨10, _⟩ => ⟨S8192x384, .bf16⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S2048x256, .f32⟩
  | .local _ .vmem, ⟨15, _⟩ => ⟨S2048x256, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x260 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S260x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x384 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "inv_sqrt_two" => some (((Real.sqrt 2)⁻¹ : ℝ) : EReal)
  | _ => none
-- ==== ReferenceIdeal.lean ====
abbrev S8x256x32x32 : Shape := ⟨4, ![8, 256, 32, 32]⟩
abbrev S8192x260 : Shape := ⟨2, ![8192, 260]⟩
abbrev S260x256 : Shape := ⟨2, ![260, 256]⟩
abbrev S256 : Shape := ⟨1, ![256]⟩
abbrev S256x256 : Shape := ⟨2, ![256, 256]⟩
abbrev S8x32x32x256 : Shape := ⟨4, ![8, 32, 32, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S1x256 : Shape := ⟨2, ![1, 256]⟩

abbrev nBuf : Space → Nat
  | .hbm => 76
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S8192x260, .f32⟩
  | .hbm, ⟨2, _⟩ => ⟨S260x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S8x32x32x256, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x256, .f32⟩
  | .hbm, ⟨28, _⟩ => ⟨S8192x256, .f32⟩
  | .hbm, ⟨29, _⟩ => ⟨S256x8192, .f32⟩
  | .hbm, ⟨30, _⟩ => ⟨S8192x8192, .f32⟩
  | .hbm, ⟨31, _⟩ => ⟨S8192x260, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x260, .f32⟩
  | .hbm, ⟨40, _⟩ => ⟨S8192x260, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x8192, .f32⟩
  | .hbm, ⟨54, _⟩ => ⟨S8192x8192, .f32⟩
  | .hbm, ⟨55, _⟩ => ⟨S8192x260, .f32⟩
  | .hbm, ⟨56, _⟩ => ⟨S8192x256, .f32⟩
  | .hbm, ⟨57, _⟩ => ⟨S1x256, .f32⟩
  | .hbm, ⟨58, _⟩ => ⟨S8192x256, .f32⟩
  | .hbm, ⟨59, _⟩ => ⟨S8192x256, .f32⟩
  | .hbm, ⟨60, _⟩ => ⟨S_, .f32⟩
  | .hbm, ⟨61, _⟩ => ⟨S8192x256, .f32⟩
  | .hbm, ⟨62, _⟩ => ⟨S8192x256, .f32⟩
  | .hbm, ⟨63, _⟩ => ⟨S8192x256, .f32⟩
  | .hbm, ⟨64, _⟩ => ⟨S_, .f32⟩
  | .hbm, ⟨65, _⟩ => ⟨S_, .f32⟩
  | .hbm, ⟨66, _⟩ => ⟨S8192x256, .f32⟩
  | .hbm, ⟨67, _⟩ => ⟨S8192x256, .f32⟩
  | .hbm, ⟨68, _⟩ => ⟨S8192x256, .f32⟩
  | .hbm, ⟨69, _⟩ => ⟨S8192x256, .f32⟩
  | .hbm, ⟨70, _⟩ => ⟨S8192x256, .f32⟩
  | .hbm, ⟨71, _⟩ => ⟨S1x256, .f32⟩
  | .hbm, ⟨72, _⟩ => ⟨S8192x256, .f32⟩
  | .hbm, ⟨73, _⟩ => ⟨S8192x256, .f32⟩
  | .hbm, ⟨74, _⟩ => ⟨S8x32x32x256, .f32⟩
  | .hbm, ⟨75, _⟩ => ⟨S8x256x32x32, .f32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call2_v0 : Ref sig .tc := ⟨.hbm, 31, rfl⟩
abbrev main_call2_cst : Ref sig .tc := ⟨.hbm, 32, rfl⟩
abbrev main_call2_v1 : Ref sig .tc := ⟨.hbm, 33, rfl⟩
abbrev main_call2_v2 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]
-- ==== Proof.KernelRun.lean ====
/- The kernel's run: the result array ends as its last stretch of host operations leaves it. -/
module

public import proofs.«01_k».proof.Proof.Gen.KernelIdeal.Frame

@[expose] public section

set_option maxRecDepth 16384

noncomputable section

namespace Cert.Attention

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with the statement
set_option backward.isDefEq.respectTransparency.types false in
/-- Every run ends, with the result array as the last host operations leave it and the arguments as launched. -/
theorem kernel_run : θ_run defs (onTc (τ := τ) (main (F := Ideal))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => (fun c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩))

end Cert.Attention

end
-- ==== Proof.Algebra.lean ====
/- The mathematics that the kernel and its reference share, over the extended reals and free of any program: a row divided
   by its norm is real whatever the row holds; a softmax-weighted average followed by a linear map is one quotient of two
   sums; the two ways of writing the Gaussian error linear unit agree. -/
module

public import Idealize.ShloMosaic.PureOps.Ideal
public import Idealize.ShloMosaic.PureOps.Ideal.Laws

@[expose] public section

noncomputable section

namespace Cert.Attention

open Idealize.ShloMosaic

/-- The smallest norm that a row is divided by. -/
def eps : EReal := Ideal.ofBits .f32 0x2B8CBCCC#32

/-- Entry `j` of the row `v` divided by the larger of the row's Euclidean norm and `eps`. -/
def unit {n : ℕ} (v : Fin n → EReal) (j : Fin n) : EReal :=
  Ideal.div (v j) (max (Ideal.sqrt (∑ k, v k * v k)) eps)

/-- The smallest norm is a positive real. -/
theorem eps_real : ∃ e : ℝ, 0 < e ∧ eps = (e : EReal) := by
  refine ⟨(9223372 / 2 ^ 63 : ℝ), by norm_num, ?_⟩
  simp [eps, Ideal.ofBits, Ideal.ieee, -EReal.coe_mul]
  norm_num

/-- A sum of reals, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A square is never negative, an infinite one included. -/
theorem square_nonneg (x : EReal) : 0 ≤ x * x := by
  induction x with
  | bot => simp
  | top => simp
  | coe r => rw [← EReal.coe_mul]; exact_mod_cast mul_self_nonneg r

/-- A row divided by its norm is real at every entry: an infinite entry makes the norm infinite and the quotient zero. -/
theorem unit_real {n : ℕ} (v : Fin n → EReal) (j : Fin n) : ∃ r : ℝ, unit v j = (r : EReal) := by
  obtain ⟨e, he, hee⟩ := eps_real
  have hS : 0 ≤ ∑ k, v k * v k := Finset.sum_nonneg fun k _ => square_nonneg (v k)
  have hj : v j * v j ≤ ∑ k, v k * v k :=
    Finset.single_le_sum (f := fun k => v k * v k) (fun k _ => square_nonneg (v k)) (Finset.mem_univ j)
  unfold unit
  rw [hee]
  generalize (∑ k, v k * v k) = S at hS hj
  induction S with
  | bot => simp at hS
  | top => exact ⟨0, by simp [Ideal.div]⟩
  | coe s =>
    have hs : ¬ s < 0 := not_lt.mpr (by exact_mod_cast hS)
    rw [Ideal.sqrt_coe, if_neg hs]
    generalize v j = x at hj
    induction x with
    | bot => simp at hj
    | top => simp at hj
    | coe x =>
      have hm : max ((Real.sqrt s : ℝ) : EReal) (e : EReal) = ((max (Real.sqrt s) e : ℝ) : EReal) :=
        (EReal.coe_strictMono.monotone.map_max).symm
      rw [hm, Ideal.div_coe (ne_of_gt (lt_max_of_lt_right he)), ← EReal.coe_mul]
      exact ⟨_, rfl⟩

/-- A finite sum of products of reals is real. -/
theorem dot_real {n : ℕ} {a b : Fin n → EReal} (ha : ∀ k, ∃ r : ℝ, a k = (r : EReal)) (hb : ∀ k, ∃ r : ℝ, b k = (r : EReal)) :
    ∃ r : ℝ, ∑ k, a k * b k = (r : EReal) := by
  choose f hf using ha
  choose g hg using hb
  refine ⟨∑ k, f k * g k, ?_⟩
  rw [coe_sum]
  exact Finset.sum_congr rfl fun k _ => by rw [hf, hg, EReal.coe_mul]

/-- The greatest of finitely many reals, at least one, taken from −∞, is real. -/
theorem max_real {n : ℕ} [NeZero n] {a : Fin n → EReal} (ha : ∀ k, ∃ r : ℝ, a k = (r : EReal)) :
    ∃ r : ℝ, (Finset.univ : Finset (Fin n)).fold max ⊥ a = (r : EReal) := by
  choose f hf using ha
  have htop : (Finset.univ : Finset (Fin n)).fold max ⊥ a < ⊤ :=
    (Finset.fold_max_lt _).mpr ⟨bot_lt_top, fun k _ => by rw [hf]; exact EReal.coe_lt_top _⟩
  have hbot : ⊥ < (Finset.univ : Finset (Fin n)).fold max ⊥ a :=
    lt_of_lt_of_le (by rw [hf]; exact EReal.bot_lt_coe _) ((Finset.le_fold_max _).mpr (.inr ⟨0, Finset.mem_univ _, le_rfl⟩))
  exact ⟨_, (EReal.coe_toReal htop.ne hbot.ne').symm⟩

/-- The softmax of the scores `s`, shifted by any real `M`, averages the rows `n`; the average is then mapped by `w`. It is
    the quotient of the exponentials' sum weighted by the mapped rows and their plain sum. -/
theorem softmax_average {K J : ℕ} [NeZero K] {s : Fin K → EReal} {M : EReal} {n : Fin K → Fin J → EReal} {w : Fin J → EReal}
    (hs : ∀ k, ∃ r : ℝ, s k = (r : EReal)) (hM : ∃ r : ℝ, M = (r : EReal)) (hn : ∀ k j, ∃ r : ℝ, n k j = (r : EReal))
    (hw : ∀ j, ∃ r : ℝ, w j = (r : EReal)) :
    Ideal.div (∑ k, Ideal.exp (s k) * ∑ j, n k j * w j) (∑ k, Ideal.exp (s k) * 1)
      = ∑ j, (∑ k, Ideal.div (Ideal.exp (s k - M)) (∑ k', Ideal.exp (s k' - M)) * n k j) * w j := by
  choose a ha using hs
  obtain ⟨M, rfl⟩ := hM
  choose b hb using hn
  choose u hu using hw
  have hpos : 0 < ∑ k, Real.exp (a k) := Finset.sum_pos (fun k _ => Real.exp_pos _) Finset.univ_nonempty
  have hpos' : 0 < ∑ k, Real.exp (a k - M) := Finset.sum_pos (fun k _ => Real.exp_pos _) Finset.univ_nonempty
  simp only [ha, hb, hu, mul_one, ← EReal.coe_sub, Ideal.exp_coe, ← EReal.coe_mul, ← coe_sum]
  rw [Ideal.div_coe hpos.ne']
  simp only [Ideal.div_coe hpos'.ne', ← EReal.coe_mul, ← coe_sum]
  refine congrArg _ ?_
  have hsum : ∑ k, Real.exp (a k - M) = (∑ k, Real.exp (a k)) / Real.exp M := by
    rw [Finset.sum_div]; exact Finset.sum_congr rfl fun k _ => Real.exp_sub _ _
  rw [hsum, Finset.sum_mul]
  simp only [Finset.sum_mul, Finset.mul_sum]
  rw [Finset.sum_comm]
  refine Finset.sum_congr rfl fun j _ => Finset.sum_congr rfl fun k _ => ?_
  rw [Real.exp_sub]
  have hM := (Real.exp_pos M).ne'
  field_simp

/-- The two spellings of the Gaussian error linear unit, one by the error function and one by its complement, agree at
    every extended real. -/
theorem gelu_forms (h z : EReal) :
    h * z * (1 + Ideal.erf (z * (((Real.sqrt 2)⁻¹ : ℝ) : EReal)))
      = h * z * Ideal.erfc (Ideal.div (-z) (Ideal.sqrt ((2 : ℝ) : EReal))) := by
  have h2 : Real.sqrt 2 ≠ 0 := by positivity
  rw [Ideal.sqrt_coe, if_neg (by norm_num), Ideal.div_coe h2, neg_mul, Ideal.erfc_neg, one_div]

end Cert.Attention

end
-- ==== Proof.Model.lean ====
/- What the kernel computes, as functions of rows and columns over the extended reals: the keys, the extended values, the
   output row. -/
module

public import proofs.«01_k».proof.Proof.Algebra
public import Idealize.ShloMosaic.Lib.Pointwise

@[expose] public section

noncomputable section

namespace Cert.Attention

open Idealize.ShloMosaic

/-- A two-axis array by row and column. -/
def mat {a b : ℕ} (A : (⟨2, ![a, b]⟩ : Shape).Idx → EReal) (r : Fin a) (l : Fin b) : EReal := A (ix2 r l)

/-- The keys: each feature row's first 256 entries, divided by their norm. -/
def key (fw : Fin 8192 → Fin 260 → EReal) (r : Fin 8192) : Fin 256 → EReal :=
  unit fun k : Fin 256 => fw r (k.castLE (by decide))

/-- The values: each feature row, divided by its norm, through the first layer's weights. -/
def value (fw : Fin 8192 → Fin 260 → EReal) (w1 : Fin 260 → Fin 256 → EReal) (r : Fin 8192) (l : Fin 256) : EReal :=
  ∑ j, unit (fw r) j * w1 j l

/-- The values with 128 columns of ones to their right. -/
def extended (fw : Fin 8192 → Fin 260 → EReal) (w1 : Fin 260 → Fin 256 → EReal) (r : Fin 8192) (l : Fin 384) : EReal :=
  if h : l.val < 256 then value fw w1 r ⟨l.val, h⟩ else 1

/-- The exponentials of a query row's scores against the keys `mn`, summed against column `l` of `vp`. -/
def weighted {n : ℕ} (x : Fin 256 → EReal) (mn : Fin 8192 → Fin 256 → EReal) (vp : Fin 8192 → Fin n → EReal) (l : Fin n) : EReal :=
  ∑ k, Ideal.exp (∑ j, unit x j * mn k j) * vp k l

/-- One output row of the second stage, from the query row `x`. -/
def outRow (x : Fin 256 → EReal) (mn : Fin 8192 → Fin 256 → EReal) (vp : Fin 8192 → Fin 384 → EReal) (b1 : Fin 256 → EReal)
    (w2 : Fin 256 → Fin 256 → EReal) (b2 : Fin 256 → EReal) (o : Fin 256) : EReal :=
  (∑ i : Fin 256, hidden (Ideal.div (weighted x mn vp (i.castLE (by decide))) (weighted x mn vp 256) + b1 i) * w2 i o) + b2 o
where
  /-- The activation, by the error function. -/
  hidden (z : EReal) : EReal := Ideal.ofBits .f32 0x3F000000#32 * z * (1 + Ideal.erf (z * (((Real.sqrt 2)⁻¹ : ℝ) : EReal)))

end Cert.Attention

end
-- ==== Proof.PrepBlock.lean ====
/- The first launch: what one grid point's body stores, at an index, from the blocks it reads. -/
module

public import proofs.«01_k».proof.Proof.Gen.KernelIdeal.Frame
public import proofs.«01_k».proof.Proof.Model
public import Idealize.ShloMosaic.Lib.Pointwise

@[expose] public section

set_option maxRecDepth 16384

noncomputable section

namespace Cert.Attention

open Idealize.ShloMosaic Cert.KernelIdeal Cert.KernelIdeal.Gen

/-- The keys' block at an index: the row's first 256 entries over their norm. -/
theorem k0_pay3_apply (v : Vec Ideal S1024x260 .f32) (r : Fin 1024) (l : Fin 256) :
    k0_pay3 (F := Ideal) v (ix2 r l) = unit (fun k : Fin 256 => v (ix2 r (k.castLE (by decide)))) l := by
  pointwise [k0_pay3]
  rfl

/-- The values' block at an index: the row over its norm, times a column of the weights. -/
theorem k0_pay1_apply (v : Vec Ideal S1024x260 .f32) (w : Vec Ideal S260x256 .f32) (r : Fin 1024) (l : Fin 256) :
    k0_pay1 (F := Ideal) v w (ix2 r l) = ∑ j, unit (fun k : Fin 260 => v (ix2 r k)) j * w (ix2 j l) := by
  pointwise [k0_pay1]
  rfl

/-- The block beside the values holds ones. -/
theorem k0_pay2_apply (y : S1024x128.Idx) : k0_pay2 (F := Ideal) y = (1 : EReal) := by
  pointwise [k0_pay2]

end Cert.Attention

end
-- ==== Proof.Prep.lean ====
/- The first launch: the two arrays it leaves, the keys and the extended values, from the feature array and the first layer's
   weights as the launch finds them. -/
module

public import proofs.«01_k».proof.Proof.PrepBlock
public import Idealize.ShloMosaic.Lib.Pipeline.ValueKit

@[expose] public section

set_option maxRecDepth 16384

noncomputable section

namespace Cert.Attention

open Idealize.ShloMosaic Cert.KernelIdeal Cert.KernelIdeal.Gen

variable (V : (c : Dev nD) → (b : Ref sig .tc) → Buf (Elt Ideal) ((c.tc : Thread nD τ).loc b))

/-- Where each window of the first launch stands at a grid point: the feature rows and both outputs by blocks of 1024 rows,
    the weights whole. -/
theorem prep_index : ∀ t : Fin grid0.N, win0_0.index t = ![t.val, 0] ∧ win0_1.index t = ![0, 0] ∧
    win0_2.index t = ![t.val, 0] ∧ win0_3.index t = ![t.val, 0] := by decide +kernel

/-- A feature row of a block is the array's row. -/
theorem feature_block (c : Dev nD) (t : Fin cfg0.N) (r : Fin 1024) (R : Fin 8192) (hR : (R : ℕ) = t.val * 1024 + r) (k : Fin 260) :
    iblk0 V c 0 t (ix2 r k) = mat (a := 8192) (b := 260) (V c main_arg1) R k := by
  unfold mat
  blk_ext [iblk0, (prep_index t).1]

/-- The weights' block is the weights' array. -/
theorem weight_block (c : Dev nD) (t : Fin cfg0.N) (j : Fin 260) (l : Fin 256) :
    iblk0 V c 1 t (ix2 j l) = mat (a := 260) (b := 256) (V c main_arg2) j l := by
  unfold mat
  blk_ext [iblk0, (prep_index t).2.1]

/-- The first launch leaves the keys in its first output. -/
theorem keys_array (c : Dev nD) : (dat0 (F := Ideal) V c).arrAt 2 cfg0.N =
    fun i : S8192x256.Idx => key (mat (a := 8192) (b := 260) (V c main_arg1)) (i 0) (i 1) := by
  refine (dat0 (F := Ideal) V c).arrAt_eq_of_covers 2 _ (by decide +kernel) fun t hf y => ?_
  blk_simp
  rw [after0_2]
  unfold outsAt0
  frame_out
  generalize hi : ((View.whole main_v2_0).slice (win0_2.rect t)).emb y = i
  have h0 : (i 0 : ℕ) = t.val * 1024 + (y 0 : ℕ) := by subst hi; blk_simp [(prep_index t).2.2.1]
  have h1 : i 1 = y 1 := Fin.ext (by subst hi; blk_simp [(prep_index t).2.2.1])
  refine ((congrArg (k0_pay3 (F := Ideal) (iblk0 V c 0 t)) (eq_ix2 y)).trans (k0_pay3_apply (iblk0 V c 0 t) (y 0) (y 1))).trans ?_
  rw [h1]
  refine congrFun (congrArg unit (funext fun k => ?_)) _
  exact feature_block V c t (y 0) (i 0) h0 _

/-- The first launch leaves the values with their columns of ones in its second output. -/
theorem values_array (c : Dev nD) : (dat0 (F := Ideal) V c).arrAt 3 cfg0.N =
    fun i : S8192x384.Idx => extended (mat (a := 8192) (b := 260) (V c main_arg1)) (mat (a := 260) (b := 256) (V c main_arg2)) (i 0) (i 1) := by
  refine (dat0 (F := Ideal) V c).arrAt_eq_of_covers 3 _ (by decide +kernel) fun t hf y => ?_
  blk_simp
  rw [after0_3]
  unfold outsAt0
  frame_out
  generalize hi : ((View.whole main_v2_1).slice (win0_3.rect t)).emb y = i
  have h0 : (i 0 : ℕ) = t.val * 1024 + (y 0 : ℕ) := by subst hi; blk_simp [(prep_index t).2.2.2]
  have h1 : (i 1 : ℕ) = (y 1 : ℕ) := by subst hi; blk_simp [(prep_index t).2.2.2]
  clear hi
  canon_tiles x k using View.cover_of_tiledBy _ ![1024, 128] (by sl_kernel_rfl) y
  · refine (k0_pay2_apply x).trans ?_
    unfold extended
    rw [dif_neg (by omega)]
  · refine ((congrArg (k0_pay1 (F := Ideal) (iblk0 V c 0 t) (iblk0 V c 1 t)) (eq_ix2 x)).trans
      (k0_pay1_apply (iblk0 V c 0 t) (iblk0 V c 1 t) (x 0) (x 1))).trans ?_
    unfold extended
    rw [dif_pos (by omega : (i 1 : ℕ) < 256)]
    refine Finset.sum_congr rfl fun j _ => congrArg₂ (· * ·) (congrFun (congrArg unit (funext fun l => ?_)) j) ?_
    · exact feature_block V c t (x 0) (i 0) (by omega) l
    · refine (weight_block V c t j (x 1)).trans (congrArg (mat (a := 260) (b := 256) (V c main_arg2) j) (Fin.ext ?_))
      exact (by omega : (x 1 : ℕ) = (i 1 : ℕ))

end Cert.Attention

end
-- ==== Proof.MainBlock.lean ====
/- The second launch: what one grid point's body stores, at an index, from the blocks it reads. -/
module

public import proofs.«01_k».proof.Proof.Gen.KernelIdeal.Frame
public import proofs.«01_k».proof.Proof.Model
public import Idealize.ShloMosaic.Lib.Pointwise

@[expose] public section

set_option maxRecDepth 16384

noncomputable section

namespace Cert.Attention

open Idealize.ShloMosaic Cert.KernelIdeal Cert.KernelIdeal.Gen

/-- The queries' block: each row over its norm. -/
theorem k1_pay2_apply (v : Vec Ideal S2048x256 .f32) (r : Fin 2048) (l : Fin 256) :
    k1_pay2 (F := Ideal) v (ix2 r l) = unit (fun k : Fin 256 => v (ix2 r k)) l := by
  pointwise [k1_pay2]
  rfl

/-- The scores of the last quarter of the keys. -/
theorem k1_pay4_apply (v : Vec Ideal S2048x256 .f32) (n : Vec Ideal S2048x256 .bf16) (r k : Fin 2048) :
    k1_pay4 (F := Ideal) v n (ix2 r k) = ∑ j, unit (fun k : Fin 256 => v (ix2 r k)) j * n (ix2 k j) := by
  pointwise [k1_pay4, k1_pay2]
  rfl

/-- The exponentials of the third quarter's scores. -/
theorem k1_pay5_apply (v : Vec Ideal S2048x256 .f32) (n : Vec Ideal S2048x256 .bf16) (r k : Fin 2048) :
    k1_pay5 (F := Ideal) v n (ix2 r k) = Ideal.exp (∑ j, unit (fun k : Fin 256 => v (ix2 r k)) j * n (ix2 k j)) := by
  pointwise [k1_pay5, k1_pay2]
  rfl

/-- The first two quarters' exponentials against their extended values. -/
theorem k1_pay3_apply (v : Vec Ideal S2048x256 .f32) (n₀ n₁ : Vec Ideal S2048x256 .bf16) (p₀ p₁ : Vec Ideal S2048x384 .bf16)
    (r : Fin 2048) (l : Fin 384) :
    k1_pay3 (F := Ideal) v n₀ n₁ p₀ p₁ (ix2 r l) =
      (∑ k : Fin 2048, Ideal.exp (∑ j, unit (fun k : Fin 256 => v (ix2 r k)) j * n₀ (ix2 k j)) * p₀ (ix2 k l)) +
      ∑ k : Fin 2048, Ideal.exp (∑ j, unit (fun k : Fin 256 => v (ix2 r k)) j * n₁ (ix2 k j)) * p₁ (ix2 k l) := by
  pointwise [k1_pay3, k1_pay2]
  rfl

/-- The output block, from the four quarters' sums `A`: the quotient, the activation and the second layer. -/
theorem k1_pay1_apply (a : Vec Ideal S2048x384 .f32) (s : Vec Ideal S2048x2048 .f32) (e : Vec Ideal S2048x2048 .bf16)
    (p₂ p₃ : Vec Ideal S2048x384 .bf16) (b1 : Vec Ideal S1x256 .f32) (w2 : Vec Ideal S256x256 .bf16) (b2 : Vec Ideal S1x256 .f32)
    (r : Fin 2048) (o : Fin 256) (A : Fin 384 → EReal)
    (hA : ∀ l, a (ix2 r l) + ∑ k, e (ix2 r k) * p₂ (ix2 k l) + ∑ k, Ideal.exp (s (ix2 r k)) * p₃ (ix2 k l) = A l) :
    k1_pay1 (F := Ideal) a s e p₂ p₃ b1 w2 b2 (ix2 r o) =
      (∑ i : Fin 256, outRow.hidden (Ideal.div (A (i.castLE (by decide))) (A 256) + b1 (ix2 0 i)) * w2 (ix2 i o)) + b2 (ix2 0 o) := by
  have hκ : Named.named (F := Ideal) (φ := .f32) κ "inv_sqrt_two" 0x3F3504F3#32 = (((Real.sqrt 2)⁻¹ : ℝ) : EReal) :=
    IdealRules.named_const.ideal_named_scalar _ _ _ _ rfl
  pointwise [k1_pay1]
  simp only [hA, hκ]
  rfl

/-- A sum over 8192 rows is the sum of its four quarters. -/
theorem sum_quarters (f : Fin 8192 → EReal) (g₀ g₁ g₂ g₃ : Fin 2048 → EReal)
    (h₀ : ∀ k : Fin 2048, g₀ k = f ⟨k, by omega⟩) (h₁ : ∀ k : Fin 2048, g₁ k = f ⟨2048 + k, by omega⟩)
    (h₂ : ∀ k : Fin 2048, g₂ k = f ⟨4096 + k, by omega⟩) (h₃ : ∀ k : Fin 2048, g₃ k = f ⟨6144 + k, by omega⟩) :
    ∑ k, g₀ k + ∑ k, g₁ k + ∑ k, g₂ k + ∑ k, g₃ k = ∑ k, f k := by
  simp only [h₀, h₁, h₂, h₃]
  rw [show ∑ k, f k = ∑ k : Fin (2048 + 2048 + 2048 + 2048), f k from rfl, Fin.sum_univ_add, Fin.sum_univ_add, Fin.sum_univ_add]
  rfl

/-- The output block at an index, from the query block, and keys, extended values, biases and weights by row and column. -/
theorem out_block (x : Vec Ideal S2048x256 .f32) (n₀ n₁ n₂ n₃ : Vec Ideal S2048x256 .bf16) (p₀ p₁ p₂ p₃ : Vec Ideal S2048x384 .bf16)
    (b1 : Vec Ideal S1x256 .f32) (w2 : Vec Ideal S256x256 .bf16) (b2 : Vec Ideal S1x256 .f32)
    (mn : Fin 8192 → Fin 256 → EReal) (vp : Fin 8192 → Fin 384 → EReal)
    (hn₀ : ∀ (k : Fin 2048) j, n₀ (ix2 k j) = mn ⟨k, by omega⟩ j) (hn₁ : ∀ (k : Fin 2048) j, n₁ (ix2 k j) = mn ⟨2048 + k, by omega⟩ j)
    (hn₂ : ∀ (k : Fin 2048) j, n₂ (ix2 k j) = mn ⟨4096 + k, by omega⟩ j) (hn₃ : ∀ (k : Fin 2048) j, n₃ (ix2 k j) = mn ⟨6144 + k, by omega⟩ j)
    (hp₀ : ∀ (k : Fin 2048) j, p₀ (ix2 k j) = vp ⟨k, by omega⟩ j) (hp₁ : ∀ (k : Fin 2048) j, p₁ (ix2 k j) = vp ⟨2048 + k, by omega⟩ j)
    (hp₂ : ∀ (k : Fin 2048) j, p₂ (ix2 k j) = vp ⟨4096 + k, by omega⟩ j) (hp₃ : ∀ (k : Fin 2048) j, p₃ (ix2 k j) = vp ⟨6144 + k, by omega⟩ j)
    (r : Fin 2048) (o : Fin 256) :
    k1_pay1 (F := Ideal) (k1_pay3 x n₀ n₁ p₀ p₁) (k1_pay4 x n₃) (k1_pay5 x n₂) p₂ p₃ b1 w2 b2 (ix2 r o) =
      outRow (fun k => x (ix2 r k)) mn vp (fun i => b1 (ix2 0 i)) (fun i o => w2 (ix2 i o)) (fun o => b2 (ix2 0 o)) o := by
  refine k1_pay1_apply _ _ _ _ _ _ _ _ r o (weighted (fun k => x (ix2 r k)) mn vp) fun l => ?_
  rw [k1_pay3_apply]
  refine sum_quarters (fun k => Ideal.exp (∑ j, unit (fun k => x (ix2 r k)) j * mn k j) * vp k l) _ _ _ _
    (fun k => ?_) (fun k => ?_) (fun k => ?_) fun k => ?_
  · simp only [hn₀, hp₀]
  · simp only [hn₁, hp₁]
  · rw [k1_pay5_apply]; simp only [hn₂, hp₂]
  · rw [k1_pay4_apply]; simp only [hn₃, hp₃]

end Cert.Attention

end
-- ==== Proof.Main.lean ====
/- The second launch: the array it leaves, from the query rows, the keys, the extended values, the biases and the second
   layer's weights as the launch finds them. -/
module

public import proofs.«01_k».proof.Proof.MainBlock
public import Idealize.ShloMosaic.Lib.Pipeline.ValueKit

@[expose] public section

set_option maxRecDepth 16384

noncomputable section

namespace Cert.Attention

open Idealize.ShloMosaic Cert.KernelIdeal Cert.KernelIdeal.Gen

variable (V : (c : Dev nD) → (b : Ref sig .tc) → Buf (Elt Ideal) ((c.tc : Thread nD τ).loc b))

/-- Where each window of the second launch stands at a grid point: the queries and the output by blocks of 2048 rows, the
    others whole. -/
theorem main_index : ∀ t : Fin grid1.N, win1_0.index t = ![t.val, 0] ∧ win1_1.index t = ![0, 0] ∧ win1_2.index t = ![0, 0] ∧
    win1_3.index t = ![0, 0] ∧ win1_4.index t = ![0, 0] ∧ win1_5.index t = ![0, 0] ∧ win1_6.index t = ![t.val, 0] := by
  decide +kernel

/-- A query row of a block is the array's row. -/
theorem query_block (c : Dev nD) (t : Fin cfg1.N) (r : Fin 2048) (R : Fin 8192) (hR : (R : ℕ) = t.val * 2048 + r) (k : Fin 256) :
    iblk1 V c 0 t (ix2 r k) = mat (a := 8192) (b := 256) (V c main_v1) R k := by
  unfold mat
  blk_ext [iblk1, (main_index t).1]

/-- Rows loaded from the keys, `o` rows down, are the array's. -/
theorem key_rows (c : Dev nD) (t : Fin cfg1.N) (o : ℕ) (inb) (k : Fin 2048) (R : Fin 8192) (hR : (R : ℕ) = o + k) (j : Fin 256) :
    View.ld (iblk1 V c 1 t) (Rect.unit (s := S8192x256) ![o, 0] S2048x256.size inb) (ix2 k j) =
      mat (a := 8192) (b := 256) (V c main_v2_0) R j := by
  refine (View.ld_unit_apply_of (Val := Elt Ideal) (e := .bf16) (S := S8192x256) (iblk1 V c 1 t) ![o, 0] S2048x256.size inb (ix2 k j) (ix2 R j) (fun a => ?_)).trans ?_
  · match a with
    | ⟨0, _⟩ => exact hR
    | ⟨1, _⟩ => exact (Nat.zero_add _).symm
  · unfold mat
    blk_ext [iblk1, (main_index t).2.1]

/-- Rows loaded from the extended values, `o` rows down, are the array's. -/
theorem value_rows (c : Dev nD) (t : Fin cfg1.N) (o : ℕ) (inb) (k : Fin 2048) (R : Fin 8192) (hR : (R : ℕ) = o + k) (j : Fin 384) :
    View.ld (iblk1 V c 2 t) (Rect.unit (s := S8192x384) ![o, 0] S2048x384.size inb) (ix2 k j) =
      mat (a := 8192) (b := 384) (V c main_v2_1) R j := by
  refine (View.ld_unit_apply_of (Val := Elt Ideal) (e := .bf16) (S := S8192x384) (iblk1 V c 2 t) ![o, 0] S2048x384.size inb (ix2 k j) (ix2 R j) (fun a => ?_)).trans ?_
  · match a with
    | ⟨0, _⟩ => exact hR
    | ⟨1, _⟩ => exact (Nat.zero_add _).symm
  · unfold mat
    blk_ext [iblk1, (main_index t).2.2.1]

/-- The first bias's block is its array. -/
theorem bias1_block (c : Dev nD) (t : Fin cfg1.N) (i : Fin 256) :
    iblk1 V c 3 t (ix2 0 i) = mat (a := 1) (b := 256) (V c main_v3) 0 i := by
  unfold mat
  blk_ext [iblk1, (main_index t).2.2.2.1]

/-- The second layer's weights' block is their array. -/
theorem weight2_block (c : Dev nD) (t : Fin cfg1.N) (i o : Fin 256) :
    iblk1 V c 4 t (ix2 i o) = mat (a := 256) (b := 256) (V c main_v4) i o := by
  unfold mat
  blk_ext [iblk1, (main_index t).2.2.2.2.1]

/-- The second bias's block is its array. -/
theorem bias2_block (c : Dev nD) (t : Fin cfg1.N) (o : Fin 256) :
    iblk1 V c 5 t (ix2 0 o) = mat (a := 1) (b := 256) (V c main_v5) 0 o := by
  unfold mat
  blk_ext [iblk1, (main_index t).2.2.2.2.2.1]

/-- The second launch leaves the output rows. -/
theorem out_array (c : Dev nD) : (dat1 (F := Ideal) V c).arrAt 6 cfg1.N = fun i : S8192x256.Idx =>
    outRow (mat (a := 8192) (b := 256) (V c main_v1) (i 0)) (mat (a := 8192) (b := 256) (V c main_v2_0))
      (mat (a := 8192) (b := 384) (V c main_v2_1)) (mat (a := 1) (b := 256) (V c main_v3) 0)
      (mat (a := 256) (b := 256) (V c main_v4)) (mat (a := 1) (b := 256) (V c main_v5) 0) (i 1) := by
  refine (dat1 (F := Ideal) V c).arrAt_eq_of_covers 6 _ (by decide +kernel) fun t hf y => ?_
  blk_simp
  rw [after1_6]
  frame_out
  generalize hi : ((View.whole main_v6).slice (win1_6.rect t)).emb y = i
  have h0 : (i 0 : ℕ) = t.val * 2048 + (y 0 : ℕ) := by subst hi; blk_simp [(main_index t).2.2.2.2.2.2]
  have h1 : i 1 = y 1 := Fin.ext (by subst hi; blk_simp [(main_index t).2.2.2.2.2.2])
  clear hi
  rw [h1]
  refine (congrArg (k1_pay1 (F := Ideal) _ _ _ _ _ _ _ _) (eq_ix2 y)).trans ((out_block _ _ _ _ _ _ _ _ _ _ _ _
    (mat (a := 8192) (b := 256) (V c main_v2_0)) (mat (a := 8192) (b := 384) (V c main_v2_1))
    (fun k j => key_rows V c t 0 _ k _ (Nat.zero_add _).symm j) (fun k j => key_rows V c t 2048 _ k _ rfl j)
    (fun k j => key_rows V c t 4096 _ k _ rfl j) (fun k j => key_rows V c t 6144 _ k _ rfl j)
    (fun k j => value_rows V c t 0 _ k _ (Nat.zero_add _).symm j) (fun k j => value_rows V c t 2048 _ k _ rfl j)
    (fun k j => value_rows V c t 4096 _ k _ rfl j) (fun k j => value_rows V c t 6144 _ k _ rfl j) (y 0) (y 1)).trans ?_)
  rw [funext fun k => query_block V c t (y 0) (i 0) h0 k, funext fun i => bias1_block V c t i,
    funext fun i => funext fun o => weight2_block V c t i o, funext fun o => bias2_block V c t o]

end Cert.Attention

end
-- ==== Proof.HostLines.lean ====
/- The kernel's host operations around its two launches, each result read off the contents the operations start from. -/
module

public import proofs.«01_k».proof.Proof.Gen.KernelIdeal.Frame
public import proofs.«01_k».proof.Proof.Gen.ReferenceIdeal.Read
public import proofs.«01_k».proof.Proof.Model
public import Idealize.ShloMosaic.Lib.Claim

@[expose] public section

set_option maxRecDepth 16384

noncomputable section

namespace Cert.Attention

open Idealize.ShloMosaic Idealize.ShloMosaic.StableHlo Cert.KernelIdeal Cert.KernelIdeal.Gen

variable (X : Valuation τ sig (Elt Ideal))

/-- Before the first launch: the image laid out as query rows, as the reference lays it out. -/
theorem rows_in : after (hostOps0 (F := Ideal)) X (Proc.devRef .tc main_v1) =
    Cert.ReferenceIdeal.Read.val_main_v1 (F := Ideal) (X (Proc.devRef .tc main_arg0)) := by
  unfold hostOps0
  after_results
  rfl

/-- Between the launches: the first bias as a one-row array. -/
theorem bias1_in (i : Fin 256) : mat (a := 1) (b := 256) (after (hostOps1 (F := Ideal)) X (Proc.devRef .tc main_v3)) 0 i =
    (X (Proc.devRef .tc main_arg3) : S256.Idx → EReal) (ix1 i) := by
  unfold hostOps1
  after_results
  generalize X (Proc.devRef .tc main_arg3) = x
  unfold mat
  pointwise []

/-- Between the launches: the second layer's weights, whose rounding is the identity on the extended reals. -/
theorem weight2_in : after (hostOps1 (F := Ideal)) X (Proc.devRef .tc main_v4) = X (Proc.devRef .tc main_arg4) := by
  unfold hostOps1
  after_results
  rfl

/-- Between the launches: the second bias as a one-row array. -/
theorem bias2_in (o : Fin 256) : mat (a := 1) (b := 256) (after (hostOps1 (F := Ideal)) X (Proc.devRef .tc main_v5)) 0 o =
    (X (Proc.devRef .tc main_arg5) : S256.Idx → EReal) (ix1 o) := by
  unfold hostOps1
  after_results
  generalize X (Proc.devRef .tc main_arg5) = x
  unfold mat
  pointwise []

/-- After the second launch: the output rows laid out as an image, as the reference lays its own out. -/
theorem rows_out (x0 : Vec Ideal S8x256x32x32 .f32) (x1 : Vec Ideal S8192x260 .f32) (x2 : Vec Ideal S260x256 .f32)
    (x3 : Vec Ideal S256 .f32) (x4 : Vec Ideal S256x256 .f32) (x5 : Vec Ideal S256 .f32)
    (h : X (Proc.devRef .tc main_v6) = Cert.ReferenceIdeal.Read.val_main_v47 (F := Ideal) x0 x1 x2 x3 x4 x5) :
    after (hostOps2 (F := Ideal)) X (Proc.devRef .tc main_v8) =
      Cert.ReferenceIdeal.Read.val_main_v49 (F := Ideal) x0 x1 x2 x3 x4 x5 := by
  unfold hostOps2
  after_results
  rw [h]
  rfl

end Cert.Attention

end
-- ==== Proof.Reference.lean ====
/- The reference's computation, row by row: its unit rows, scores, softmax, average, first layer, activation and second
   layer. -/
module

public import proofs.«01_k».proof.Proof.Gen.ReferenceIdeal.Read
public import proofs.«01_k».proof.Proof.Model
public import Idealize.ShloMosaic.Lib.Pointwise

@[expose] public section

set_option maxRecDepth 16384

noncomputable section

namespace Cert.Attention

open Idealize.ShloMosaic Cert.ReferenceIdeal Cert.ReferenceIdeal.Gen Cert.ReferenceIdeal.Read

variable (x0 : Vec Ideal S8x256x32x32 .f32) (x1 : Vec Ideal S8192x260 .f32) (x2 : Vec Ideal S260x256 .f32)
  (x3 : Vec Ideal S256 .f32) (x4 : Vec Ideal S256x256 .f32) (x5 : Vec Ideal S256 .f32)

/-- The queries, by row and column. -/
def queries : Fin 8192 → Fin 256 → EReal := mat (a := 8192) (b := 256) (val_main_v1 (F := Ideal) x0)

/-- The reference divides each query row by its norm. -/
theorem ref_query (r : Fin 8192) (l : Fin 256) : val_main_v6 (F := Ideal) x0 (ix2 r l) = unit (queries x0 r) l := by
  pointwise [val_main_v6, val_main_v5, val_main_v4, val_main_v3, val_main_cst, val_main_v2, val_main_call0_v2, val_main_call0_v1,
    val_main_call0_v0, val_main_call0_cst]
  rfl

/-- The reference's keys. -/
theorem ref_key (k : Fin 8192) (j : Fin 256) :
    val_main_v12 (F := Ideal) x1 (ix2 k j) = key (mat (a := 8192) (b := 260) x1) k j := by
  pointwise [val_main_v12, val_main_v11, val_main_v10, val_main_v9, val_main_cst_0, val_main_v8, val_main_call1_v2,
    val_main_call1_v1, val_main_call1_v0, val_main_call1_cst, val_main_v7]
  rfl

/-- The reference divides each feature row by its norm. -/
theorem ref_feature (k : Fin 8192) (j : Fin 260) :
    val_main_v19 (F := Ideal) x1 (ix2 k j) = unit (mat (a := 8192) (b := 260) x1 k) j := by
  pointwise [val_main_v19, val_main_v18, val_main_v17, val_main_v16, val_main_cst_1, val_main_v15, val_main_call2_v2,
    val_main_call2_v1, val_main_call2_v0, val_main_call2_cst]
  rfl

/-- A query row's score against key `k`. -/
def score (r k : Fin 8192) : EReal := ∑ j, unit (queries x0 r) j * key (mat (a := 8192) (b := 260) x1) k j

/-- The reference's scores. -/
theorem ref_score (r k : Fin 8192) : val_main_v14 (F := Ideal) x0 x1 (ix2 r k) = score x0 x1 r k := by
  unfold score
  simp only [← ref_query, ← ref_key]
  pointwise [val_main_v14, val_main_v13]

/-- The largest score of a query row. -/
def top (r : Fin 8192) : EReal := max ⊥ ((Finset.univ : Finset (Fin 8192)).fold max ⊥ (score x0 x1 r))

/-- The literal −∞ is the bottom of the extended reals. -/
theorem negative_infinity : Ideal.ofBits .f32 0xFF800000#32 = ⊥ := by
  simp [Ideal.ofBits, Ideal.ieee]

/-- The literal 2.0 is the real number two. -/
theorem two_literal : Ideal.ofBits .f32 0x40000000#32 = ((2 : ℝ) : EReal) := by
  simp [Ideal.ofBits, Ideal.ieee, -EReal.coe_mul]
  norm_num

/-- A maximum over the columns of a row is the fold of `max` along the row. -/
theorem row_max (y : S8192x8192.Idx → EReal) (z : S_.Idx → EReal) (r : Fin 8192) :
    Host.reduce (max : EReal → EReal → EReal) y z reducesTo_S8192x8192_S8192_d1 h_S_ (ix1 r) =
      (Finset.univ : Finset (Fin 8192)).fold max (z (Shape.Idx.first h_S_)) fun k => y (ix2 r k) := by
  have h : S8192x8192.Reduces [1] S8192 := by decide
  have hl : y ∘ h.lift (ix1 r) = fun k : Fin 8192 => y (ix2 r k) := funext fun k => congrArg y (funext fun a => Fin.ext (by
    match a with
    | ⟨0, _⟩ => rfl
    | ⟨1, _⟩ => rfl))
  rw [Host.reduce_eq_fold_single max y z reducesTo_S8192x8192_S8192_d1 h h_S_ (ix1 r), hl]
  rfl

/-- The reference's shift: the largest score. -/
theorem ref_top (r : Fin 8192) : val_main_v22 (F := Ideal) x0 x1 (ix1 r) = top x0 x1 r := by
  have hmax : val_main_v20 (F := Ideal) x0 x1 (ix1 r) = (Finset.univ : Finset (Fin 8192)).fold max ⊥ (score x0 x1 r) := by
    unfold val_main_v20
    have e : (FloatOps.maximumf (F := Ideal) (φ := .f32)) = (max : EReal → EReal → EReal) := rfl
    have hb : val_main_cst_2 (F := Ideal) (Shape.Idx.first h_S_) = (⊥ : EReal) :=
      (val_main_cst_2_apply _).trans negative_infinity
    have hs : (fun k => val_main_v14 (F := Ideal) x0 x1 (ix2 r k)) = score x0 x1 r := funext (ref_score x0 x1 r)
    generalize val_main_v14 (F := Ideal) x0 x1 = y at hs
    generalize val_main_cst_2 (F := Ideal) = z at hb
    rw [e, row_max y z r, hb, hs]
  have hbot : val_main_v21 (F := Ideal) (ix1 r) = (⊥ : EReal) :=
    (val_main_v21_apply _).trans ((val_main_cst_3_apply _).trans negative_infinity)
  rw [val_main_v22_apply, hbot, hmax]
  rfl

/-- The reference's average of the feature rows, through the first layer, plus the bias. -/
theorem ref_layer1 (r : Fin 8192) (i : Fin 256) : val_main_v35 (F := Ideal) x0 x1 x2 x3 (ix2 r i) =
    (∑ j, (∑ k, Ideal.div (Ideal.exp (score x0 x1 r k - top x0 x1 r)) (∑ k', Ideal.exp (score x0 x1 r k' - top x0 x1 r))
      * unit (mat (a := 8192) (b := 260) x1 k) j) * mat (a := 260) (b := 256) x2 j i) + x3 (ix1 i) := by
  simp only [← ref_score, ← ref_top, ← ref_feature]
  pointwise [val_main_v35, val_main_v34, val_main_v33, val_main_v32, val_main_v31, val_main_v30, val_main_v29, val_main_v28,
    val_main_v27, val_main_cst_4, val_main_v26, val_main_v25, val_main_v24, val_main_v23]
  rfl

/-- The reference's activation, second layer and bias. -/
theorem ref_out (r : Fin 8192) (o : Fin 256) : val_main_v47 (F := Ideal) x0 x1 x2 x3 x4 x5 (ix2 r o) =
    (∑ i, (Ideal.ofBits .f32 0x3F000000#32 * val_main_v35 (F := Ideal) x0 x1 x2 x3 (ix2 r i) *
      Ideal.erfc (Ideal.div (-val_main_v35 (F := Ideal) x0 x1 x2 x3 (ix2 r i)) (Ideal.sqrt (Ideal.ofBits .f32 0x40000000#32))))
      * mat (a := 256) (b := 256) x4 i o) + x5 (ix1 o) := by
  pointwise [val_main_v47, val_main_v46, val_main_v45, val_main_v44, val_main_v43, val_main_v42, val_main_v41, val_main_v40,
    val_main_v39, val_main_cst_6, val_main_v38, val_main_v37, val_main_v36, val_main_cst_5]
  rfl

end Cert.Attention

end
-- ==== Proof.Equation.lean ====
/- The kernel's output rows are the reference's, when the first layer's weights are real numbers. -/
module

public import proofs.«01_k».proof.Proof.Reference

@[expose] public section

set_option maxRecDepth 16384

noncomputable section

namespace Cert.Attention

open Idealize.ShloMosaic Cert.ReferenceIdeal Cert.ReferenceIdeal.Gen Cert.ReferenceIdeal.Read

variable (x0 : Vec Ideal S8x256x32x32 .f32) (x1 : Vec Ideal S8192x260 .f32) (x2 : Vec Ideal S260x256 .f32)
  (x3 : Vec Ideal S256 .f32) (x4 : Vec Ideal S256x256 .f32) (x5 : Vec Ideal S256 .f32)

/-- Every score is a real number, whatever the arguments hold. -/
theorem score_real (r k : Fin 8192) : ∃ s : ℝ, score x0 x1 r k = (s : EReal) := by
  exact dot_real (fun j => unit_real _ j) fun j => unit_real _ j

/-- The largest score is a real number. -/
theorem top_real (r : Fin 8192) : ∃ s : ℝ, top x0 x1 r = (s : EReal) := by
  unfold top
  rw [max_eq_right bot_le]
  exact max_real (score_real x0 x1 r)

/-- The first layer: the kernel's quotient of two weighted sums is the reference's softmax average through the weights. -/
theorem layer1_eq (hw : ∀ j i, ∃ s : ℝ, x2 (ix2 j i) = (s : EReal)) (r : Fin 8192) (i : Fin 256) :
    Ideal.div
        (weighted (queries x0 r) (key (mat (a := 8192) (b := 260) x1))
          (extended (mat (a := 8192) (b := 260) x1) (mat (a := 260) (b := 256) x2)) (i.castLE (by decide)))
        (weighted (queries x0 r) (key (mat (a := 8192) (b := 260) x1))
          (extended (mat (a := 8192) (b := 260) x1) (mat (a := 260) (b := 256) x2)) 256)
      + x3 (ix1 i) = val_main_v35 (F := Ideal) x0 x1 x2 x3 (ix2 r i) := by
  have hv : ∀ k, extended (mat (a := 8192) (b := 260) x1) (mat (a := 260) (b := 256) x2) k (i.castLE (by decide)) =
      ∑ j, unit (mat (a := 8192) (b := 260) x1 k) j * mat (a := 260) (b := 256) x2 j i := fun k => dif_pos i.isLt
  have h1 : ∀ k, extended (mat (a := 8192) (b := 260) x1) (mat (a := 260) (b := 256) x2) k 256 = 1 :=
    fun k => dif_neg (by decide)
  rw [ref_layer1]
  unfold weighted
  simp only [hv, h1]
  exact congrArg (· + x3 (ix1 i)) (softmax_average (score_real x0 x1 r) (top_real x0 x1 r) (fun k j => unit_real _ j) fun j => hw j i)

/-- A whole output row: the kernel's is the reference's. -/
theorem row_eq (hw : ∀ j i, ∃ s : ℝ, x2 (ix2 j i) = (s : EReal)) (r : Fin 8192) (o : Fin 256) :
    outRow (queries x0 r) (key (mat (a := 8192) (b := 260) x1))
        (extended (mat (a := 8192) (b := 260) x1) (mat (a := 260) (b := 256) x2)) (fun i => x3 (ix1 i))
        (mat (a := 256) (b := 256) x4) (fun o => x5 (ix1 o)) o
      = val_main_v47 (F := Ideal) x0 x1 x2 x3 x4 x5 (ix2 r o) := by
  rw [ref_out, two_literal]
  unfold outRow
  refine congrArg (· + x5 (ix1 o)) (Finset.sum_congr rfl fun i _ => congrArg (· * mat (a := 256) (b := 256) x4 i o) ?_)
  rw [layer1_eq x0 x1 x2 x3 hw r i]
  exact gelu_forms _ _

end Cert.Attention

end
-- ==== Proof.KernelValue.lean ====
/- The kernel's result array, from the arguments: each launch's array over what the lines before it leave, and their
   equality with the reference's. -/
module

public import proofs.«01_k».proof.Proof.Prep
public import proofs.«01_k».proof.Proof.Main
public import proofs.«01_k».proof.Proof.HostLines
public import proofs.«01_k».proof.Proof.Equation

@[expose] public section

set_option maxRecDepth 16384

noncomputable section

namespace Cert.Attention

open Idealize.ShloMosaic Cert.KernelIdeal Cert.KernelIdeal.Gen

variable (m : (ℓ : Loc nD τ sig) → Buf (Elt Ideal) ℓ) (ρ : Dev nD → PrngReg) (c : Dev nD)

/-- The second launch finds the query rows. -/
theorem entry_queries : V3 m ρ c main_v1 =
    Cert.ReferenceIdeal.Read.val_main_v1 (F := Ideal) (m ((c.tc : Thread nD τ).loc main_arg0)) :=
  (W3_of m ρ c main_v1 (by decide)).trans ((W2_of m ρ c main_v1 (by decide)).trans (rows_in (W0 m ρ c)))

/-- The second launch finds the keys. -/
theorem entry_keys : V3 m ρ c main_v2_0 = fun i : S8192x256.Idx =>
    key (mat (a := 8192) (b := 260) (m ((c.tc : Thread nD τ).loc main_arg1))) (i 0) (i 1) := by
  refine (W3_of m ρ c main_v2_0 (by decide)).trans ((W2_arr m ρ c 2).trans ((keys_array (V1 m ρ) c).trans ?_))
  rw [show V1 m ρ c main_arg1 = m ((c.tc : Thread nD τ).loc main_arg1) from W1_args m ρ c main_arg1 (by decide)]

/-- The second launch finds the extended values. -/
theorem entry_values : V3 m ρ c main_v2_1 = fun i : S8192x384.Idx =>
    extended (mat (a := 8192) (b := 260) (m ((c.tc : Thread nD τ).loc main_arg1)))
      (mat (a := 260) (b := 256) (m ((c.tc : Thread nD τ).loc main_arg2))) (i 0) (i 1) := by
  refine (W3_of m ρ c main_v2_1 (by decide)).trans ((W2_arr m ρ c 3).trans ((values_array (V1 m ρ) c).trans ?_))
  rw [show V1 m ρ c main_arg1 = m ((c.tc : Thread nD τ).loc main_arg1) from W1_args m ρ c main_arg1 (by decide),
    show V1 m ρ c main_arg2 = m ((c.tc : Thread nD τ).loc main_arg2) from W1_args m ρ c main_arg2 (by decide)]

/-- The second launch finds the first bias. -/
theorem entry_bias1 : mat (a := 1) (b := 256) (V3 m ρ c main_v3) 0 =
    fun i => (m ((c.tc : Thread nD τ).loc main_arg3) : S256.Idx → EReal) (ix1 i) :=
  funext fun i => (bias1_in (W2 m ρ c) i).trans (congrFun (W2_args m ρ c main_arg3 (by decide)) (ix1 i))

/-- The second launch finds the second layer's weights. -/
theorem entry_weight2 : V3 m ρ c main_v4 = m ((c.tc : Thread nD τ).loc main_arg4) :=
  (weight2_in (W2 m ρ c)).trans (W2_args m ρ c main_arg4 (by decide))

/-- The second launch finds the second bias. -/
theorem entry_bias2 : mat (a := 1) (b := 256) (V3 m ρ c main_v5) 0 =
    fun i => (m ((c.tc : Thread nD τ).loc main_arg5) : S256.Idx → EReal) (ix1 i) :=
  funext fun i => (bias2_in (W2 m ρ c) i).trans (congrFun (W2_args m ρ c main_arg5 (by decide)) (ix1 i))

/-- With real first-layer weights the kernel's result is the reference's, of the same arguments. -/
theorem kernel_value (hw : ∀ j i, ∃ s : ℝ, (m ((c.tc : Thread nD τ).loc main_arg2) : S260x256.Idx → EReal) (ix2 j i) = (s : EReal)) :
    W5 m ρ c (Proc.devRef .tc main_v8) = Cert.ReferenceIdeal.Read.val_main_v49 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  refine rows_out (W4 m ρ c) _ _ _ _ _ _ ((W4_arr m ρ c 6).trans ((out_array (V3 m ρ) c).trans ?_))
  rw [entry_queries, entry_keys, entry_values, entry_bias1, entry_weight2, entry_bias2]
  funext i
  exact (row_eq _ _ _ _ _ _ hw (i 0) (i 1)).trans (congrArg _ (eq_ix2 i).symm)

end Cert.Attention

end
-- ==== Proof.Finite.lean ====
/- The precondition: no first-layer weight is infinite, so each is a real number. -/
module

public import proofs.«01_k».proof.Pre_finite_w1
public import Idealize.ShloMosaic.Lib.Pointwise

@[expose] public section

set_option maxRecDepth 16384

noncomputable section

namespace Cert.Attention

open Idealize.ShloMosaic Cert.Pre_finite_w1

/-- The one side condition the precondition's operations take. -/
theorem finite_facts : Cert.Pre_finite_w1.Facts := ⟨by decide⟩

/-- Where the precondition's test reads one everywhere, every first-layer weight is a real number. -/
theorem weight_real (x0 : Vec Ideal S8x256x32x32 .f32) (x1 : Vec Ideal S8192x260 .f32) (x2 : Vec Ideal S260x256 .f32)
    (x3 : Vec Ideal S256 .f32) (x4 : Vec Ideal S256x256 .f32) (x5 : Vec Ideal S256 .f32)
    (h : @Cert.Pre_finite_w1.fn finite_facts Ideal _ x0 x1 x2 x3 x4 x5 = fun _ => 1#1) (j : Fin 260) (i : Fin 256) :
    ∃ s : ℝ, x2 (ix2 j i) = (s : EReal) := by
  have h := congrFun h (ix2 j i)
  pointwise [Cert.Pre_finite_w1.fn] at h
  have htop : Ideal.ofBits .f32 0x7F800000#32 = ⊤ := by simp [Ideal.ofBits, Ideal.ieee]
  rw [htop, Ideal.absf_def] at h
  generalize (x2 (ix2 j i) : EReal) = w at h ⊢
  induction w using EReal.rec with
  | bot => simp at h
  | top => simp at h
  | coe s => exact ⟨s, rfl⟩

end Cert.Attention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.KernelValue
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to completion with its arguments unchanged and every semaphore back at zero. -/
theorem reference_frame :
    @quiescent_ReferenceIdeal Cert.ReferenceIdeal.Gen.facts :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From memories that agree on the arguments, with real first-layer weights, the idealised kernel and the reference leave
    the same result and their arguments unchanged. The common result is what the kernel's last host line leaves. -/
theorem same_result :
    @algebraic_KernelIdeal_ReferenceIdeal_pre_finite_w1 Cert.KernelIdeal.Gen.facts Cert.ReferenceIdeal.Gen.facts
      Cert.Attention.finite_facts := by
  intro m g m' g' hpre hargs
  refine ⟨fun c => Cert.KernelIdeal.Gen.W5 m g c (Proc.devRef .tc Cert.KernelIdeal.main_v8), Cert.Attention.kernel_run m g,
    (θ_run Cert.ReferenceIdeal.defs _ _).mono (fun r h c => ⟨(h c).1.trans ?_, (h c).2⟩)
      (Cert.ReferenceIdeal.Value.run (F := Ideal) m' g')⟩
  obtain ⟨h0, h1, h2, h3, h4, h5⟩ := hargs c
  rw [Cert.ReferenceIdeal.Read.val_main_v49_eq, h0, h1, h2, h3, h4, h5]
  exact (Cert.Attention.kernel_value m g c (Cert.Attention.weight_real _ _ _ _ _ _ (hpre c))).symm

/-- Everything the certificate claims: the three frames, with and without the precondition; that the idealised kernel is the
    kernel with one constant named; and that the idealised kernel computes the reference. -/
theorem claim : Cert.Claim := ⟨Cert.Kernel.Gen.facts, Cert.KernelIdeal.Gen.facts, Cert.ReferenceIdeal.Gen.facts,
  Cert.Attention.finite_facts,
  fun m ρ _ => Cert.Kernel.Gen.frame m ρ, fun m ρ _ => Cert.KernelIdeal.Gen.frame m ρ,
  fun m ρ _ => Cert.KernelIdeal.Gen.frame m ρ, reference_frame, fun m ρ _ => reference_frame m ρ trivial,
  IdealRules.named_const.statement Cert.KernelIdeal.κ "inv_sqrt_two" .f32 0x3F3504F3#32 (((Real.sqrt 2)⁻¹ : ℝ) : EReal) rfl,
  same_result⟩

end Cert.Proof

end
